-- ==== Defs.lean ====
def Pre_Kernel (m : (ℓ : Loc Cert.Kernel.nD Cert.Kernel.τ Cert.Kernel.sig) → Buf (Elt Bits) ℓ) : Prop :=
  True

def Pre_Kernel_zero_words [hPre_zero_words : Cert.Pre_zero_words.Facts] (m : (ℓ : Loc Cert.Kernel.nD Cert.Kernel.τ Cert.Kernel.sig) → Buf (Elt Bits) ℓ) : Prop :=
  ∀ c : Dev Cert.Kernel.nD,
    (Cert.Pre_zero_words.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_zero_table [hPre_zero_table : Cert.Pre_zero_table.Facts] (m : (ℓ : Loc Cert.KernelIdeal.nD Cert.KernelIdeal.τ Cert.KernelIdeal.sig) → Buf (Elt Ideal) ℓ) : Prop :=
  ∀ c : Dev Cert.KernelIdeal.nD,
    (Cert.Pre_zero_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_zero_words [hPre_zero_words : Cert.Pre_zero_words.Facts] (m : (ℓ : Loc Cert.Reference.nD Cert.Reference.τ Cert.Reference.sig) → Buf (Elt Bits) ℓ) : Prop :=
  ∀ c : Dev Cert.Reference.nD,
    (Cert.Pre_zero_words.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_table [hPre_zero_table : Cert.Pre_zero_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_zero_words [hKernel : Cert.Kernel.Facts] [hPre_zero_words : Cert.Pre_zero_words.Facts] : Prop :=
  ∀ (m : (ℓ : Loc Cert.Kernel.nD Cert.Kernel.τ Cert.Kernel.sig) → Buf (Elt Bits) ℓ) (g : Dev Cert.Kernel.nD → PrngReg), Pre_Kernel_zero_words m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zero_table [hKernelIdeal : Cert.KernelIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_zero_words [hReference : Cert.Reference.Facts] [hPre_zero_words : Cert.Pre_zero_words.Facts] : Prop :=
  ∀ (m : (ℓ : Loc Cert.Reference.nD Cert.Reference.τ Cert.Reference.sig) → Buf (Elt Bits) ℓ) (g : Dev Cert.Reference.nD → PrngReg), Pre_Reference_zero_words m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_zero_table [hReferenceIdeal : Cert.ReferenceIdeal.Facts] [hPre_zero_table : Cert.Pre_zero_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_zero_table [hKernelIdeal : Cert.KernelIdeal.Facts] [hReferenceIdeal : Cert.ReferenceIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_zero_words [hKernel : Cert.Kernel.Facts] [hReference : Cert.Reference.Facts] [hPre_zero_words : Cert.Pre_zero_words.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_zero_words m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_zero_words : Cert.Pre_zero_words.Facts) (hPre_zero_table : Cert.Pre_zero_table.Facts),
    quiescent_Kernel (hKernel := hKernel)
    ∧ quiescent_Kernel_pre_zero_words (hKernel := hKernel) (hPre_zero_words := hPre_zero_words)
    ∧ quiescent_KernelIdeal (hKernelIdeal := hKernelIdeal)
    ∧ quiescent_KernelIdeal_pre_zero_table (hKernelIdeal := hKernelIdeal) (hPre_zero_table := hPre_zero_table)
    ∧ quiescent_Reference (hReference := hReference)
    ∧ quiescent_Reference_pre_zero_words (hReference := hReference) (hPre_zero_words := hPre_zero_words)
    ∧ quiescent_ReferenceIdeal (hReferenceIdeal := hReferenceIdeal)
    ∧ quiescent_ReferenceIdeal_pre_zero_table (hReferenceIdeal := hReferenceIdeal) (hPre_zero_table := hPre_zero_table)
    ∧ preserves_Kernel_KernelIdeal
    ∧ algebraic_KernelIdeal_ReferenceIdeal_pre_zero_table (hKernelIdeal := hKernelIdeal) (hReferenceIdeal := hReferenceIdeal) (hPre_zero_table := hPre_zero_table)
    ∧ bitexact_Kernel_Reference_pre_zero_words (hKernel := hKernel) (hReference := hReference) (hPre_zero_words := hPre_zero_words)
-- ==== Pre_zero_table.lean ====
abbrev S4096x50 : Shape := ⟨2, ![4096, 50]⟩
abbrev S1000000x32 : Shape := ⟨2, ![1000000, 32]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_

variable [Facts]

def fn {F : FTy → Type} [FloatOps F] (main_arg0 : IVec S4096x50 32) (main_arg1 : FVec F S1000000x32 .f32) : IVec S_ 1 :=
  let main_c : IVec S_ 32 := constantI S_ 32 4293967296#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_cst : FVec F S_ .f32 := constant S_ .f32 0x00000000#32
  let main_v6 : FVec F S1000000x32 .f32 := broadcastInDim S1000000x32 ![] bcast_S_S1000000x32 main_cst
  let main_v7 : IVec S1000000x32 1 := cmpf .oeq main_arg1 main_v6
  let main_c_2 : IVec S_ 1 := constantI S_ 1 1#1
  let main_v8 : IVec S_ 1 := (fun x v => Host.reduce IntOp.andi x v reducesTo_S1000000x32_S_d0_1 h_S_) main_v7 main_c_2
  let main_v9 : IVec S_ 1 := andi main_v5 main_v8
  main_v9
-- ==== Pre_zero_words.lean ====
abbrev S4096x50 : Shape := ⟨2, ![4096, 50]⟩
abbrev S1000000x32 : Shape := ⟨2, ![1000000, 32]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_

variable [Facts]

def fn {F : FTy → Type} [BitOps F] (main_arg0 : IVec S4096x50 32) (main_arg1 : FVec F S1000000x32 .f32) : IVec S_ 1 :=
  let main_c : IVec S_ 32 := constantI S_ 32 4293967296#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_v6 : IVec S1000000x32 32 := bitcastToInt main_arg1
  let main_c_2 : IVec S_ 32 := constantI S_ 32 0#32
  let main_v7 : IVec S1000000x32 32 := broadcastInDim S1000000x32 ![] bcast_S_S1000000x32 main_c_2
  let main_v8 : IVec S1000000x32 1 := cmpi .eq main_v6 main_v7
  let main_c_3 : IVec S_ 1 := constantI S_ 1 1#1
  let main_v9 : IVec S_ 1 := (fun x v => Host.reduce IntOp.andi x v reducesTo_S1000000x32_S_d0_1 h_S_) main_v8 main_c_3
  let main_v10 : IVec S_ 1 := andi main_v5 main_v9
  main_v10
-- ==== Kernel.lean ====
abbrev S4096x50 : Shape := ⟨2, ![4096, 50]⟩
abbrev S1000000x32 : Shape := ⟨2, ![1000000, 32]⟩
abbrev S4096x1600 : Shape := ⟨2, ![4096, 1600]⟩
abbrev S2048x1600 : Shape := ⟨2, ![2048, 1600]⟩
abbrev S4096x50x32 : Shape := ⟨3, ![4096, 50, 32]⟩

abbrev nBuf : Space → Nat
  | .hbm => 4
  | .vmem => 2
  | .smem => 0
  | _ => 0

abbrev bufTy : (tb : Table) → Fin (tcTables nBuf tb) → BufTy
  | .hbm, ⟨0, _⟩ => ⟨S4096x50, .i32⟩
  | .hbm, ⟨1, _⟩ => ⟨S1000000x32, .f32⟩
  | .hbm, ⟨2, _⟩ => ⟨S4096x1600, .f32⟩
  | .hbm, ⟨3, _⟩ => ⟨S4096x50x32, .f32⟩
  | .local _ .vmem, ⟨0, _⟩ => ⟨S2048x1600, .f32⟩
  | .local _ .vmem, ⟨1, _⟩ => ⟨S2048x1600, .f32⟩
  | _, _ => ⟨S4096x50, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S4096x50 : Shape := ⟨2, ![4096, 50]⟩
abbrev S1000000x32 : Shape := ⟨2, ![1000000, 32]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x32 : Shape := ⟨3, ![4096, 50, 32]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x32, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x32, .f32⟩
  | .hbm, ⟨21, _⟩ => ⟨S4096x50x32, .i1⟩
  | .hbm, ⟨22, _⟩ => ⟨S_, .f32⟩
  | .hbm, ⟨23, _⟩ => ⟨S4096x50x32, .f32⟩
  | .hbm, ⟨24, _⟩ => ⟨S4096x50x32, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Zeros.Fill.lean ====
/- What the kernel computes, for any float values: each of its two grid points writes zeros over its block of 2048 rows,
   the two blocks tile the array, and the reshape after the call lays out the zeros anew. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.ValueKit
public import Idealize.ShloMosaic.Lib.Pipeline.FrameSuffix
public import Idealize.ShloMosaic.Lib.Pipeline.FrameBody
public import Idealize.ShloMosaic.Lib.Claim

@[expose] public section

noncomputable section

namespace Cert.KernelIdeal.Zeros

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The float that the kernel stores: the one that the word 0 denotes. -/
abbrev zero : F .f32 := Scalar.ofBits .f32 0x00000000#32

/-- A block of zeros. -/
abbrev zeroBlock : Vec F S2048x1600 .f32 := fun _ => zero (F := F)

/-- The kernel's body, given the staging buffer at any contents, leaves it at zeros. -/
theorem body_zero (c : Dev nD) (E : Set ℕ) (i : grid0.Coords) (a : Memref sig .tc .vmem S2048x1600 .f32) (ha : a.IsWhole)
    (K : PUnit → sProp 𝕄) :
    iprop((∃ d, owns (c : Thread nD τ) a fullShare d) ∗ (owns (c : Thread nD τ) a fullShare (zeroBlock (F := F)) -∗ K ⟨⟩))
      ⊢ wp frame (wpE (defs₀ (F := F)) Variants.none c none) E (cc0__zero_fill_kernel i a ha) K := by
  rw [cc0__zero_fill_kernel_eq_skeleton]
  unfold cc0__zero_fill_kernel_skel owns
  iintro ⟨⟨%d, %f, -, Ha⟩, HK⟩
  sl_exec
  sl_step
  iapply HK
  iexists _
  isplitr
  swap
  · iexact Ha
  ipureintro
  have cover := View.cover_of_tiled (Val := Elt F) (e := .f32)
    [⟨Rect.unit ![0, 0] S2048x1600.size inb_S2048x1600_S2048x1600_0_0, k0_pay1 (F := F)⟩] S2048x1600.size (by rfl)
  refine (View.read_writes_eq_canon _ _ _ cover).trans ?_
  have h0 : (![0, 0] : Fin 2 → ℕ) = fun _ => 0 := by funext k; fin_cases k <;> rfl
  exact View.canon_unit_zero (Val := Elt F) (S := S2048x1600) (e := .f32) h0 inb_S2048x1600_S2048x1600_0_0 (k0_pay1 (F := F))

/-- The proof data of the launch: the arrays as the call finds them; after every point the staging buffer holds zeros; the
    body keeps nothing from one point to the next and owes nothing. -/
def dats (_ : Fin 1) (c : Dev nD) : Dat τ (Elt F) Unit ℕ (UR sig nD τ) ℕ cfg0 c where
  A w := V m c (Pipeline.arrRef spec0 w)
  after w _ := match w with
    | ⟨0, _⟩ => zeroBlock (F := F)
  Φ _ := Pipeline.ΦA spec0 c
  q _ := fullShare
  owed _ := 0

theorem dats_A (c : Dev nD) (w : Fin cfg0.W) : (dats m 0 c).A w = V m c (Pipeline.arrRef spec0 w) := by
  dsimp only [dats]

/-- After any point the staging buffer holds zeros. -/
theorem dats_after (c : Dev nD) (t : Fin cfg0.N) : (dats m 0 c).after 0 t = zeroBlock (F := F) := by
  dsimp only [dats]

/-- At every point the body meets what the pipeline asks of it. -/
theorem body_ok (c : Dev nD) : BodyObligation (dats (F := F) m 0 c) (defs₀ (F := F)) Variants.none () Set.univ := by
  intro t
  rw [bigSep_W0, bigSep_W0, show defs₀ (F := F) .tc cfg0.body (cfg0.bodyArgs t (cfg0.slots t)) = bodyAt0 t by
    unfold defs₀; rw [Defs.onTc_tc]]
  have h : iprop((dats m 0 c).Φ t.castSucc ∗ (dats m 0 c).owesAt () t.castSucc
        ∗ (∃ d, owns (c : Thread nD τ) (st0_0 t) fullShare ((dats m 0 c).before 0 t d)))
      ⊢ wp frame (wpE (defs₀ (F := F)) Variants.none c none) Set.univ (bodyAt0 t) fun _ =>
        iprop((dats m 0 c).Φ t.castSucc ∗ (dats m 0 c).owesAt () t.castSucc
          ∗ owns (c : Thread nD τ) (st0_0 t) fullShare ((dats m 0 c).after 0 t)) := by
    rw [dats_after]
    unfold bodyAt0
    iintro ⟨HΦ, Ho, ⟨%d, Hs⟩⟩
    iapply (body_zero c Set.univ (grid0.coords t) _ _ _)
    isplitl [Hs]
    · iexists _; iexact Hs
    iintro ⟨Hs⟩
    isplitl [HΦ]
    · iexact HΦ
    isplitl [Ho]
    · iexact Ho
    iexact Hs
  exact triple_restated h rfl .rfl fun _ => .rfl

set_option backward.isDefEq.respectTransparency.types false in
set_option maxHeartbeats 800000 in
/-- The launch: every execution ends with the call's array at what its two points wrote, every other buffer as the reshape
    leaves it, and every semaphore counter at zero. -/
theorem launch : θ_run defs (onTc (τ := τ) (main (F := F))) (s₀ m ρ) fun r =>
    Pipeline.FramePost cfgs (dats m) 0 (Pipeline.afterTail₀ cfgs (dats m) 0 (V0 m) [hostOps1]) r ∧ r.2.sem = fun _ => 0 :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

/-- After both points the call's array holds zero everywhere: each point writes zeros over its block, and the blocks tile
    the array. -/
theorem array_zero (c : Dev nD) :
    (dats m 0 c).arrAt 0 cfg0.N = (fun _ => zero : FVec F S4096x1600 .f32) := by
  refine (dats m 0 c).arrAt_eq_of_covers 0 _ (by decide +kernel) fun t hf y => ?_
  blk_simp
  rw [dats_after]

/-- The reshape of the zeros is zeros. -/
theorem result_zero (c : Dev nD) : Pipeline.afterTail₀ cfgs (dats m) 0 (V0 m) [hostOps1] c main_v1
    = (fun _ => zero : FVec F S4096x50x32 .f32) := by
  unfold Pipeline.afterTail₀
  simp only [hostOps1, List.flatten_cons, List.flatten_nil, List.append_nil]
  after_results
  have hv : Pipeline.withArrays (cfgs 0).spec c (V0 m c) (fun w => (dats m 0 c).arrAt w (cfgs 0).N)
      (Proc.tc.devRef main_v0) = (fun _ => zero : FVec F S4096x1600 .f32) :=
    (Pipeline.withArrays_arr spec0 launch0.win.arr_inj c (V0 m c) _ 0).trans (array_zero m c)
  rw [hv]
  rfl

/-- The kernel runs: its result holds zero everywhere, the arguments are unchanged, every semaphore counter is zero. -/
theorem run : θ_run defs (onTc (τ := τ) (main (F := F))) ⟨m, fun _ => 0, ρ⟩ fun r =>
    (∀ c : Dev nD, r.2.mem ((c.tc : Thread nD τ).loc main_v1) = (fun _ => zero : FVec F S4096x50x32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c =>
    have other (b : Ref sig .tc) (hb) := (h.1 c).2 b hb
    ⟨(other main_v1 (Pipeline.mem_restRefs_of main_v1 (by decide) (by decide))).trans (result_zero m c),
      (other main_arg0 (Pipeline.mem_restRefs_of main_arg0 (by decide) (by decide))).trans (W_main_arg0 m (dats m) c),
      (other main_arg1 (Pipeline.mem_restRefs_of main_arg1 (by decide) (by decide))).trans (W_main_arg1 m (dats m) c)⟩,
    h.2⟩) (launch m ρ)

end Cert.KernelIdeal.Zeros

end
-- ==== Proof.Zeros.Lookup.lean ====
/- What the reference computes: `jnp.take` of a table along its rows, as the host program spells it, and its value where
   every index names a row and every entry of the table is the same. For any float values. -/
module

public import proofs.«01_k».proof.ReferenceIdeal
public import Idealize.ShloMosaic.Lib.Affine
public import Idealize.ShloMosaic.Lib.ReduceAll

@[expose] public section

noncomputable section

namespace Cert.Zeros

open Idealize.ShloMosaic
open Cert.ReferenceIdeal (S4096x50 S1000000x32 S_ S4096x50x1 S1 S1x1x1 S4096x50x32)
open Cert.ReferenceIdeal.Facts₀

variable [Cert.ReferenceIdeal.Facts₀]

/-- The row each index names: the index itself, or counted from the table's end where it is negative. -/
def rowOf (x : IVec S4096x50 32) : IVec S4096x50x1 32 :=
  broadcastInDim S4096x50x1 ![0, 1] bcast_S4096x50_S4096x50x1_0_1
    (select (cmpi .slt x (broadcastInDim S4096x50 ![] bcast_S_S4096x50 (constantI S_ 32 0#32)))
      (addi x (broadcastInDim S4096x50 ![] bcast_S_S4096x50 (constantI S_ 32 1000000#32))) x)

/-- One where that row is a row of the table. -/
def isRow (x : IVec S4096x50 32) : IVec S4096x50x1 1 :=
  andi (cmpi .sge (rowOf x) (broadcastInDim S4096x50x1 ![] bcast_S_S4096x50x1 (constantI S_ 32 0#32)))
    (cmpi .sle (rowOf x) (broadcastInDim S4096x50x1 ![0, 1, 2] bcast_S1x1x1_S4096x50x1_0_1_2
      (broadcastInDim S1x1x1 ![2] bcast_S1_S1x1x1_2 (constantI S1 32 999999#32))))

/-- The lookup: the gathered rows, and the fill word where an index names none. -/
def lookup {F : FTy → Type} [FloatOps F] (d : GatherDims S1000000x32 S4096x50x1 S4096x50x32)
    (x : IVec S4096x50 32) (w : FVec F S1000000x32 .f32) : FVec F S4096x50x32 .f32 :=
  select (broadcastInDim S4096x50x32 ![0, 1] bcast_S4096x50_S4096x50x32_0_1
      (Host.reduce IntOp.andi (isRow x) (constantI S_ 1 1#1) reducesTo_S4096x50x1_S4096x50_d2 h_S_))
    (Host.gather d w (rowOf x))
    (broadcastInDim S4096x50x32 ![] bcast_S_S4096x50x32 (constant S_ .f32 0x7FC00000#32))

/-- An index from `-1000000` to `999999`, moved up by 1000000 where it is negative, is from 0 to 999999. -/
theorem wrap_in_range (a : BitVec 32) (h0 : -1000000 ≤ a.toInt) (h1 : a.toInt < 1000000) :
    0 ≤ (Scalar.select (IntOp.cmpi .slt a 0#32) (IntOp.addi a 1000000#32) a).toInt
      ∧ (Scalar.select (IntOp.cmpi .slt a 0#32) (IntOp.addi a 1000000#32) a).toInt ≤ 999999 := by
  have hz : (0#32).toInt = 0 := rfl
  by_cases hn : IntOp.cmpi .slt a 0#32 = 1#1
  · have ha : a.toInt < 0 := by simpa only [hz] using IntOp.cmpi_slt.1 hn
    have hadd : (IntOp.addi a 1000000#32).toInt = a.toInt + 1000000 := by
      show (a + 1000000#32).toInt = _
      have hk : (1000000#32).toInt = 1000000 := rfl
      rw [BitVec.toInt_add, hk, Int.bmod_eq_of_le (by omega) (by omega)]
    rw [show Scalar.select (IntOp.cmpi .slt a 0#32) (IntOp.addi a 1000000#32) a = IntOp.addi a 1000000#32 from if_pos hn, hadd]
    omega
  · have ha : ¬ a.toInt < 0 := fun h => hn (IntOp.cmpi_slt.2 (by simpa only [hz] using h))
    rw [show Scalar.select (IntOp.cmpi .slt a 0#32) (IntOp.addi a 1000000#32) a = a from if_neg hn]
    omega

/-- Where every index is from `-1000000` to `999999`, every one names a row. -/
theorem isRow_eq_one (x : IVec S4096x50 32) (hx : ∀ i, -1000000 ≤ (x i).toInt ∧ (x i).toInt < 1000000)
    (j : S4096x50x1.Idx) : isRow x j = 1#1 := by
  obtain ⟨i, hi⟩ : ∃ i, rowOf x j = Scalar.select (IntOp.cmpi .slt (x i) 0#32) (IntOp.addi (x i) 1000000#32) (x i) := ⟨_, rfl⟩
  have hr := wrap_in_range (x i) (hx i).1 (hx i).2
  rw [← hi] at hr
  exact IntOp.andi_eq_one.2 ⟨IntOp.cmpi_sge.2 hr.1, IntOp.cmpi_sle.2 hr.2⟩

/-- The lookup in a table that holds one value everywhere gives that value everywhere, if every index names a row. -/
theorem lookup_const {F : FTy → Type} [FloatOps F] (d : GatherDims S1000000x32 S4096x50x1 S4096x50x32)
    (x : IVec S4096x50 32) (w : FVec F S1000000x32 .f32) (z : F .f32)
    (hx : ∀ i, -1000000 ≤ (x i).toInt ∧ (x i).toInt < 1000000) (hw : ∀ i, w i = z) : lookup d x w = fun _ => z := by
  funext j
  have hm : broadcastInDim S4096x50x32 ![0, 1] bcast_S4096x50_S4096x50x32_0_1
      (Host.reduce IntOp.andi (isRow x) (constantI S_ 1 1#1) reducesTo_S4096x50x1_S4096x50_d2 h_S_) j = 1#1 :=
    Host.reduce_andi_one _ _ _ _ _ rfl (isRow_eq_one x hx)
  unfold lookup select
  rw [hm]
  exact (if_pos rfl).trans (hw _)

end Cert.Zeros

end
-- ==== Proof.Zeros.Pre.lean ====
/- What the two preconditions say, read off the programs that decide them: every index names a row, and the table is zero —
   as a number over the ideal values, as a word over the machine's. -/
module

public import proofs.«01_k».proof.Pre_zero_table
public import proofs.«01_k».proof.Pre_zero_words
public import Idealize.ShloMosaic.Lib.Affine
public import Idealize.ShloMosaic.Lib.ReduceAll
public import Idealize.ShloMosaic.PureOps.BitExact
public import Idealize.ShloMosaic.PureOps.Ideal

@[expose] public section

noncomputable section

namespace Cert.Zeros

open Idealize.ShloMosaic

instance : Subsingleton (⟨0, ![]⟩ : Shape).Idx := ⟨fun a b => funext fun k => k.elim0⟩

/-- A word between two others, as the programs compare them. -/
theorem between {a lo hi : BitVec 32} (h : IntOp.andi (IntOp.cmpi .sge a lo) (IntOp.cmpi .slt a hi) = 1#1) :
    lo.toInt ≤ a.toInt ∧ a.toInt < hi.toInt :=
  ⟨IntOp.cmpi_sge.1 (IntOp.andi_eq_one.1 h).1, IntOp.cmpi_slt.1 (IntOp.andi_eq_one.1 h).2⟩

/-- The program of `zero_table` gives one over the ideal values only where every index names a row and every entry of the
    table is the number that the word 0 denotes. -/
theorem zero_table_says [Cert.Pre_zero_table.Facts] (x : IVec Cert.Pre_zero_table.S4096x50 32)
    (w : FVec Ideal Cert.Pre_zero_table.S1000000x32 .f32) (h : Cert.Pre_zero_table.fn (F := Ideal) x w = fun _ => 1#1) :
    (∀ i, -1000000 ≤ (x i).toInt ∧ (x i).toInt < 1000000) ∧ ∀ i, w i = Scalar.ofBits .f32 0x00000000#32 := by
  obtain ⟨hx, hw⟩ := IntOp.andi_eq_one.1 (congrFun h (Shape.Idx.first (by decide)))
  refine ⟨fun i => between (Host.reduce_andi_all _ _ _ _ _ hx i), fun i => ?_⟩
  have hi : Ideal.cmp .oeq (w i) (Ideal.ofBits .f32 0x00000000#32) = 1#1 :=
    Host.reduce_andi_all _ _ _ _ _ hw i
  by_contra hne
  have hne : w i ≠ Ideal.ofBits .f32 0x00000000#32 := hne
  simp [Ideal.cmp, hne] at hi

/-- The program of `zero_words` gives one only where every index names a row and every entry of the table is the word 0. -/
theorem zero_words_says [Cert.Pre_zero_words.Facts] (x : IVec Cert.Pre_zero_words.S4096x50 32)
    (w : FVec Bits Cert.Pre_zero_words.S1000000x32 .f32) (h : Cert.Pre_zero_words.fn (F := Bits) x w = fun _ => 1#1) :
    (∀ i, -1000000 ≤ (x i).toInt ∧ (x i).toInt < 1000000) ∧ ∀ i, w i = Scalar.ofBits .f32 0x00000000#32 := by
  obtain ⟨hx, hw⟩ := IntOp.andi_eq_one.1 (congrFun h (Shape.Idx.first (by decide)))
  exact ⟨fun i => between (Host.reduce_andi_all _ _ _ _ _ hx i),
    fun i => IntOp.cmpi_eq.1 (Host.reduce_andi_all _ _ _ _ _ hw i)⟩

end Cert.Zeros

end
-- ==== Proof.lean ====
/- The claims of the statement: the kernel and the reference, over the machine's floats and over the ideal ones, leave their
   arguments and every semaphore counter as they found them; and where every index names a row and the table is zero, the
   two results are equal, as extended reals and bit by bit. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_table
public import proofs.«01_k».proof.Proof.Gen.Pre_zero_words
public import proofs.«01_k».proof.Proof.Gen.Reference
public import proofs.«01_k».proof.Proof.Gen.Reference.Run
public import proofs.«01_k».proof.Proof.Gen.ReferenceIdeal.Run
public import proofs.«01_k».proof.Proof.Zeros.Fill
public import proofs.«01_k».proof.Proof.Zeros.Lookup
public import proofs.«01_k».proof.Proof.Zeros.Pre
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel and its ideal reading have the same kernel function in their tables. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

/-- So they have the same tables. -/
theorem defs_eq : Cert.Kernel.defs (F := Bits) = Cert.KernelIdeal.defs (F := Bits) := congrArg (Pipeline.defs _) defs₀_eq

/-- The kernel over the machine's floats is the ideal kernel's own text: what is shown of that for any float values holds
    of it. Its result is zero everywhere, its arguments are unchanged, every semaphore counter is zero. -/
theorem kernel_run (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      fun r => (∀ c : Dev Cert.Kernel.nD,
        r.2.mem ((c.tc : Thread Cert.Kernel.nD Cert.Kernel.τ).loc Cert.Kernel.main_v1)
            = (fun _ => Scalar.ofBits .f32 0x00000000#32 : FVec Bits Cert.Kernel.S4096x50x32 .f32)
          ∧ r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1))
        ∧ r.2.sem = fun _ => 0 := by
  rw [defs_eq]
  exact Cert.KernelIdeal.Zeros.run (F := Bits) m ρ

/-- The reference over the machine's floats leaves its arguments and every counter as they were. -/
theorem reference_frame : Cert.quiescent_Reference := fun m g _ =>
  (θ_run _ _ _).mono (fun r h => ⟨fun c => (h c).2, sem_eq_zero_of_no_sems rfl r.2⟩) (Cert.Reference.Value.run m g)

/-- So does the reference over the ideal floats. -/
theorem reference_ideal_frame : Cert.quiescent_ReferenceIdeal := fun m g _ =>
  (θ_run _ _ _).mono (fun r h => ⟨fun c => (h c).2, sem_eq_zero_of_no_sems rfl r.2⟩) (Cert.ReferenceIdeal.Value.run m g)

/-- The ideal kernel leaves its arguments and every counter as they were. -/
theorem kernel_ideal_frame : Cert.quiescent_KernelIdeal := fun m g _ =>
  (θ_run _ _ _).mono (fun _ h => ⟨fun c => (h.1 c).2, h.2⟩) (Cert.KernelIdeal.Zeros.run m g)

/-- The kernel over the machine's floats does. -/
theorem kernel_frame : Cert.quiescent_Kernel := fun m g _ =>
  (θ_run _ _ _).mono (fun _ h => ⟨fun c => (h.1 c).2, h.2⟩) (kernel_run m g)

/-- Over the ideal floats the reference gives `z` everywhere where every index names a row and the table is `z` everywhere. So
    at any other `z` than zero it differs from the kernel, whose result is zero whatever the table holds. -/
theorem reference_ideal_const (m : (ℓ : Loc Cert.ReferenceIdeal.nD Cert.ReferenceIdeal.τ Cert.ReferenceIdeal.sig) → Buf (Elt Ideal) ℓ)
    (ρ : Dev Cert.ReferenceIdeal.nD → PrngReg) (z : Ideal .f32)
    (hx : ∀ c : Dev Cert.ReferenceIdeal.nD, ∀ i : Cert.ReferenceIdeal.S4096x50.Idx,
      -1000000 ≤ BitVec.toInt (m ((c.tc : Thread Cert.ReferenceIdeal.nD Cert.ReferenceIdeal.τ).loc Cert.ReferenceIdeal.main_arg0) i)
        ∧ BitVec.toInt (m ((c.tc : Thread Cert.ReferenceIdeal.nD Cert.ReferenceIdeal.τ).loc Cert.ReferenceIdeal.main_arg0) i) < 1000000)
    (hw : ∀ c : Dev Cert.ReferenceIdeal.nD, ∀ i : Cert.ReferenceIdeal.S1000000x32.Idx,
      m ((c.tc : Thread Cert.ReferenceIdeal.nD Cert.ReferenceIdeal.τ).loc Cert.ReferenceIdeal.main_arg1) i = z) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v0)
            = (fun _ => z : FVec Ideal Cert.ReferenceIdeal.S4096x50x32 .f32)
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run _ _ _).mono (fun _ h c => ⟨(h c).1.trans
    (Cert.Zeros.lookup_const (F := Ideal) Cert.ReferenceIdeal.gather_S1000000x32_S4096x50x1_S4096x50x32_2_0_n_n_0_2_132
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) z (hx c) (hw c)), (h c).2⟩)
    (Cert.ReferenceIdeal.Value.run m ρ)

/-- Over the machine's floats too. -/
theorem reference_const (m : (ℓ : Loc Cert.Reference.nD Cert.Reference.τ Cert.Reference.sig) → Buf (Elt Bits) ℓ)
    (ρ : Dev Cert.Reference.nD → PrngReg) (z : Bits .f32)
    (hx : ∀ c : Dev Cert.Reference.nD, ∀ i : Cert.Reference.S4096x50.Idx,
      -1000000 ≤ BitVec.toInt (m ((c.tc : Thread Cert.Reference.nD Cert.Reference.τ).loc Cert.Reference.main_arg0) i)
        ∧ BitVec.toInt (m ((c.tc : Thread Cert.Reference.nD Cert.Reference.τ).loc Cert.Reference.main_arg0) i) < 1000000)
    (hw : ∀ c : Dev Cert.Reference.nD, ∀ i : Cert.Reference.S1000000x32.Idx,
      m ((c.tc : Thread Cert.Reference.nD Cert.Reference.τ).loc Cert.Reference.main_arg1) i = z) :
    θ_run (Cert.Reference.defs (F := Bits)) (onTc (τ := Cert.Reference.τ) (Cert.Reference.main (F := Bits))) ⟨m, fun _ => 0, ρ⟩
      fun r => ∀ c : Dev Cert.Reference.nD,
        r.2.mem ((c.tc : Thread Cert.Reference.nD Cert.Reference.τ).loc Cert.Reference.main_v0)
            = (fun _ => z : FVec Bits Cert.Reference.S4096x50x32 .f32)
          ∧ r.2.mem ((c.tc : Thread Cert.Reference.nD Cert.Reference.τ).loc Cert.Reference.main_arg0)
            = m ((c.tc : Thread Cert.Reference.nD Cert.Reference.τ).loc Cert.Reference.main_arg0)
          ∧ r.2.mem ((c.tc : Thread Cert.Reference.nD Cert.Reference.τ).loc Cert.Reference.main_arg1)
            = m ((c.tc : Thread Cert.Reference.nD Cert.Reference.τ).loc Cert.Reference.main_arg1) :=
  (θ_run _ _ _).mono (fun _ h c => ⟨(h c).1.trans
    (Cert.Zeros.lookup_const (F := Bits) Cert.Reference.gather_S1000000x32_S4096x50x1_S4096x50x32_2_0_n_n_0_2_132
      (m ((c.tc : Thread Cert.Reference.nD Cert.Reference.τ).loc Cert.Reference.main_arg0))
      (m ((c.tc : Thread Cert.Reference.nD Cert.Reference.τ).loc Cert.Reference.main_arg1)) z (hx c) (hw c)), (h c).2⟩)
    (Cert.Reference.Value.run m ρ)

/-- Where every index names a row and the table is zero, kernel and reference give the same extended reals: zero. -/
theorem equal_ideal : Cert.algebraic_KernelIdeal_ReferenceIdeal_pre_zero_table := fun m g m' g' hpre hargs =>
  ⟨fun _ => (fun _ => Scalar.ofBits .f32 0x00000000#32 : FVec Ideal Cert.KernelIdeal.S4096x50x32 .f32),
    (θ_run _ _ _).mono (fun _ h => h.1) (Cert.KernelIdeal.Zeros.run m g),
    reference_ideal_const m' g' _
      (fun c => by rw [(hargs c).1]; exact (Cert.Zeros.zero_table_says _ _ (hpre c)).1)
      (fun c => by rw [(hargs c).2]; exact (Cert.Zeros.zero_table_says _ _ (hpre c)).2)⟩

/-- Where every index names a row and every word of the table is 0, kernel and reference give the same words: 0. -/
theorem equal_words : Cert.bitexact_Kernel_Reference_pre_zero_words := fun m g m' g' hpre hargs =>
  ⟨fun _ => (fun _ => Scalar.ofBits .f32 0x00000000#32 : FVec Bits Cert.Kernel.S4096x50x32 .f32),
    (θ_run _ _ _).mono (fun _ h => h.1) (kernel_run m g),
    reference_const m' g' _
      (fun c => by rw [(hargs c).1]; exact (Cert.Zeros.zero_words_says _ _ (hpre c)).1)
      (fun c => by rw [(hargs c).2]; exact (Cert.Zeros.zero_words_says _ _ (hpre c)).2)⟩

/-- Every claim of the statement, with the side conditions that the programs and the preconditions state. -/
theorem claim : Cert.Claim :=
  ⟨Cert.Kernel.Gen.facts, Cert.KernelIdeal.Gen.facts, Cert.Reference.Gen.facts, Cert.ReferenceIdeal.Gen.facts,
    Cert.Pre_zero_words.Gen.facts, Cert.Pre_zero_table.Gen.facts,
    kernel_frame, fun m g _ => kernel_frame m g trivial,
    kernel_ideal_frame, fun m g _ => kernel_ideal_frame m g trivial,
    reference_frame, fun m g _ => reference_frame m g trivial,
    reference_ideal_frame, fun m g _ => reference_ideal_frame m g trivial,
    trivial, equal_ideal, equal_words⟩

end Cert.Proof

end
